-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192x4096 : Shape := ⟨3, ![4, 8192, 4096]⟩
abbrev S8192x4096 : Shape := ⟨2, ![8192, 4096]⟩
abbrev S4x512x4096 : Shape := ⟨3, ![4, 512, 4096]⟩
abbrev S4 : Shape := ⟨1, ![4]⟩
abbrev S1 : Shape := ⟨1, ![1]⟩
abbrev S_ : Shape := ⟨0, ![]⟩
abbrev S1x64x4096 : Shape := ⟨3, ![1, 64, 4096]⟩
abbrev S64x4096 : Shape := ⟨2, ![64, 4096]⟩
abbrev S1x128x4096 : Shape := ⟨3, ![1, 128, 4096]⟩
abbrev S128x4096 : Shape := ⟨2, ![128, 4096]⟩
abbrev S1x256x4096 : Shape := ⟨3, ![1, 256, 4096]⟩
abbrev S256x4096 : Shape := ⟨2, ![256, 4096]⟩
abbrev S1x512x4096 : Shape := ⟨3, ![1, 512, 4096]⟩
abbrev S512x4096 : Shape := ⟨2, ![512, 4096]⟩

abbrev nBuf : Space → Nat
  | .hbm => 2
  | .vmem => 1
  | .smem => 0
  | _ => 0

abbrev bufTy : (tb : Table) → Fin (tcTables nBuf tb) → BufTy
  | .hbm, ⟨0, _⟩ => ⟨S4x8192x4096, .f32⟩
  | .hbm, ⟨1, _⟩ => ⟨S8192x4096, .f32⟩
  | .local _ .vmem, ⟨0, _⟩ => ⟨S4x512x4096, .f32⟩
  | _, _ => ⟨S4x8192x4096, .f32⟩

abbrev bufScoped : (cs : CoreSpace) → Fin (nBuf (.core cs)) → Bool
  | .vmem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_scratch0 : Ref sig .tc := ⟨.vmem, 0, rfl⟩

abbrev nD : Nat := 1
abbrev τ : Topo := Topo.v7x

variable {F : FTy → Type} [FloatOps F]

abbrev grid0 : Pipeline.Grid := .none
-- ==== Reference.lean ====
abbrev S4x8192x4096 : Shape := ⟨3, ![4, 8192, 4096]⟩
abbrev S1x8192x4096 : Shape := ⟨3, ![1, 8192, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4x8192x4096, .f32⟩
  | .hbm, ⟨1, _⟩ => ⟨S1x8192x4096, .f32⟩
  | .hbm, ⟨2, _⟩ => ⟨S8192x4096, .f32⟩
  | _, _ => ⟨S4x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Schedule.lean ====
/-
  The copy's schedule as one recursion. The printed kernel spells out every transfer of the ring;
  here each of the four kinds of step (start a read, wait for a read, start a write, wait for a write)
  is one definition of the chunk's number, and the kernel is shown to be their sequence.
-/
module

public import proofs.«01_k».proof.Proof.Gen.Kernel.Launch
public import proofs.«01_k».proof.Proof.Gen.Kernel.Points

@[expose] public section

noncomputable section

namespace Cert.Kernel.Hand

open Cert.Kernel Cert.Kernel.Gen
open Idealize.ShloMosaic Idealize.ShloMosaic.TcCoe
open Idealize.SL.Sem

variable {F : FTy → Type} [FloatOps F]

/-! ## The chunks -/

/-- How many rows chunk `i` copies; past the last chunk, none. -/
def rows (i : ℕ) : ℕ :=
  if i < 2 then 64 else if i < 3 then 128 else if i < 4 then 256 else if i < 18 then 512
  else if i < 19 then 256 else if i < 20 then 128 else if i < 22 then 64 else 0

/-- The first row of chunk `i`. -/
def off (i : ℕ) : ℕ :=
  if i < 2 then 64 * i else if i < 4 then 128 * (i - 1) else if i < 18 then 512 * (i - 3)
  else if i < 19 then 7680 else if i < 20 then 7936 else if i < 22 then 64 * (i - 20) + 8064 else 8192

/-- A chunk starts where the one before it ends. -/
theorem off_succ (i : ℕ) : off (i + 1) = off i + rows i := by
  unfold off rows; split_ifs <;> omega

/-- Every chunk lies within the array's rows. -/
theorem off_rows (i : ℕ) : off i + rows i ≤ 8192 := by
  unfold off rows; split_ifs <;> omega

/-- Every chunk fits a slot. -/
theorem rows_le (i : ℕ) : rows i ≤ 512 := by
  unfold rows; split_ifs <;> omega

/-- A chunk of the kernel copies some rows. -/
theorem rows_pos (i : ℕ) (h : i < 22) : 0 < rows i := by
  unfold rows; split_ifs <;> omega

/-- Chunk `i`'s rows of one plane, -/
abbrev plane (i : ℕ) : Shape := ⟨3, ![1, rows i, 4096]⟩
/-- and the same rows as a matrix. -/
abbrev panel (i : ℕ) : Shape := ⟨2, ![rows i, 4096]⟩

/-- The matrix is the plane's rows without the leading axis. -/
theorem squeezes (i : ℕ) : (plane i).Squeezes (panel i) := by
  simp [Shape.Squeezes, Shape.dropsOnes]

/-- Chunk `i`'s rows lie in the input, -/
theorem inbX (i : ℕ) : ∀ a, (![2, off i, 0] : Fin 3 → ℕ) a + (plane i).size a ≤ S4x8192x4096.size a := by
  have := off_rows i
  intro a; fin_cases a <;> simp [S4x8192x4096] <;> omega

/-- its window lies in the ring, -/
theorem inbB (i : ℕ) : ∀ a, (![i % 4, 0, 0] : Fin 3 → ℕ) a + (plane i).size a ≤ S4x512x4096.size a := by
  have := rows_le i
  intro a; fin_cases a <;> simp [S4x512x4096] <;> omega

/-- its rows lie in the output, -/
theorem inbO (i : ℕ) : ∀ a, (![off i, 0] : Fin 2 → ℕ) a + (panel i).size a ≤ S8192x4096.size a := by
  have := off_rows i
  intro a; fin_cases a <;> simp [S8192x4096] <;> omega

/-- and its cell among the four. -/
theorem inbS (i : ℕ) : ∀ a, (![i % 4] : Fin 1 → ℕ) a + S1.size a ≤ S4.size a := by
  intro a; fin_cases a; simp [S4, S1]; omega

/-- Chunk `i` of the input's plane, -/
abbrev xM (i : ℕ) : Memref sig .tc .hbm (panel i) .f32 :=
  ((Memref.whole main_arg0 : Memref sig .tc .hbm S4x8192x4096 .f32).slice (Rect.unit (s := S4x8192x4096) ![2, off i, 0] (plane i).size (inbX i)) (fun _ => rfl)).squeeze (panel i) (squeezes i)
/-- its window in its slot, -/
abbrev bM (i : ℕ) : Memref sig .tc .vmem (panel i) .f32 :=
  ((Memref.whole cc0_scratch0 : Memref sig .tc .vmem S4x512x4096 .f32).slice (Rect.unit (s := S4x512x4096) ![i % 4, 0, 0] (plane i).size (inbB i)) (fun _ => rfl)).squeeze (panel i) (squeezes i)
/-- and its rows of the output. -/
abbrev oM (i : ℕ) : Memref sig .tc .hbm (panel i) .f32 :=
  (Memref.whole main_v0 : Memref sig .tc .hbm S8192x4096 .f32).slice (Rect.unit (s := S8192x4096) ![off i, 0] (panel i).size (inbO i)) (fun _ => rfl)

/-- The cell of an array of four that chunk `i` uses. -/
abbrev cell (a : DmaSems sig S4) (i : ℕ) : DmaSem sig :=
  ((a.slice (Rect.unit (s := S4) ![i % 4] S1.size (inbS i))).squeeze S_ squeezes_S1_S_).sem
/-- The cell chunk `i`'s read completes on, -/
abbrev inSem (i : ℕ) : DmaSem sig := cell cc0_scratch1 i
/-- and the cell its write completes on. -/
abbrev outSem (i : ℕ) : DmaSem sig := cell cc0_scratch2 i

/-! ## The steps -/

/-- The kernel's programs. -/
abbrev P : Type _ := Prog (TpuEff nD τ sig (Elt F) Λ₀ .tc) PUnit

/-- Start reading chunk `i` into its slot, and go on with `k`. -/
def inStart (i : ℕ) (k : P (F := F)) : P (F := F) :=
  .op (.enqueueDma (xM i) (.here (bM i)) (.dma (inSem i)) ((View.wordExact_bits rfl).reshape _ _) ((View.wordExact_bits rfl).reshape _ _) ⟨Or.inl rfl, trivial⟩) fun _ => k
/-- Wait for chunk `i`'s read. -/
def inWait (i : ℕ) (k : P (F := F)) : P (F := F) :=
  .op (.waitDma2 (inSem i) (xM i) (bM i) ((View.wordExact_bits rfl).reshape _ _) ((View.wordExact_bits rfl).reshape _ _)) fun _ => k
/-- Start writing chunk `i` out of its slot. -/
def outStart (i : ℕ) (k : P (F := F)) : P (F := F) :=
  .op (.enqueueDma (bM i) (.here (oM i)) (.dma (outSem i)) ((View.wordExact_bits rfl).reshape _ _) (View.wordExact_bits rfl) ⟨Or.inl rfl, trivial⟩) fun _ => k
/-- Wait for chunk `i`'s write. -/
def outWait (i : ℕ) (k : P (F := F)) : P (F := F) :=
  .op (.waitDma2 (outSem i) (bM i) (oM i) ((View.wordExact_bits rfl).reshape _ _) (View.wordExact_bits rfl)) fun _ => k

/-- `n` iterations in the steady state from chunk `i + 2`: its read lands, its write starts, the write
    two chunks back lands, the read two chunks ahead starts. -/
def steady : ℕ → ℕ → P (F := F) → P (F := F)
  | 0, _, k => k
  | n + 1, i, k => inWait (i + 2) (outStart (i + 2) (outWait i (inStart (i + 4) (steady n (i + 1) k))))

/-- The whole copy. -/
def copy : P (F := F) :=
  inStart 0 <| inStart 1 <|
  inWait 0 <| outStart 0 <| inStart 2 <|
  inWait 1 <| outStart 1 <| inStart 3 <|
  steady 18 0 <|
  inWait 20 <| outStart 20 <| inWait 21 <| outStart 21 <|
  outWait 18 <| outWait 19 <| outWait 20 <| outWait 21 <| .ret ⟨⟩

/-- The printed kernel is the schedule. -/
theorem kernel_eq : cc0__copy_kernel (F := F) (Memref.whole main_arg0) (Memref.isWhole_whole _) (Memref.whole main_v0) (Memref.isWhole_whole _)
    (Memref.whole cc0_scratch0) (Memref.isWhole_whole _) cc0_scratch1 cc0_scratch2 = copy := by
  rfl

end Cert.Kernel.Hand

end
-- ==== Proof.Steps.lean ====
/-
  What each step of the copy does with the buffers it touches, for any chunk: the four rules the
  schedule's proof applies.
-/
module

public import proofs.«01_k».proof.Proof.Schedule
public import Idealize.ShloMosaic.Lib.Pipeline.FrameBody
public import Idealize.ShloMosaic.Lib.ViewIndex
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

/-! ## Where things lie -/

/-- The input array on core `c`, -/
abbrev xL (c : Dev nD) : Loc nD τ sig := (c : Thread nD τ).loc main_arg0
/-- the ring, -/
abbrev bL (c : Dev nD) : Loc nD τ sig := (c : Thread nD τ).loc cc0_scratch0
/-- and the output array. -/
abbrev oL (c : Dev nD) : Loc nD τ sig := (c : Thread nD τ).loc main_v0

/-- The elements of slot `s` of the ring. -/
def slotSet (s : ℕ) : Finset S4x512x4096.Idx := Finset.univ.filter fun j => (j 0 : ℕ) = s
/-- The elements of the output below row `r`, -/
def below (r : ℕ) : Finset S8192x4096.Idx := Finset.univ.filter fun j => (j 0 : ℕ) < r
/-- and from row `r` on. -/
def above (r : ℕ) : Finset S8192x4096.Idx := Finset.univ.filter fun j => r ≤ (j 0 : ℕ)

/-- The elements chunk `i` takes from the input, -/
abbrev xS (i : ℕ) : Finset S4x8192x4096.Idx := (xM i).view.set
/-- fills in the ring, -/
abbrev bS (i : ℕ) : Finset S4x512x4096.Idx := (bM i).view.set
/-- and writes in the output. -/
abbrev oS (i : ℕ) : Finset S8192x4096.Idx := (oM i).view.set

/-- A chunk's window lies in its slot. -/
theorem bS_sub (i : ℕ) : bS i ⊆ slotSet (i % 4) := by
  intro j hj
  have hj : j ∈ ((View.whole cc0_scratch0).slice (Rect.unit (s := S4x512x4096) ![i % 4, 0, 0] (plane i).size (inbB i))).set := by
    rw [← View.set_reshape _ (squeezes i).numel_eq]; exact hj
  rw [View.set_slice_whole] at hj
  have h := Rect.mem_set_unit.mp hj 0
  simp at h
  simp only [slotSet, Finset.mem_filter, Finset.mem_univ, true_and]
  omega

/-- An element of the output is chunk `i`'s when its row is. -/
theorem mem_oS (i : ℕ) (j : S8192x4096.Idx) : j ∈ oS i ↔ off i ≤ (j 0 : ℕ) ∧ (j 0 : ℕ) < off i + rows i := by
  have h : j ∈ oS i ↔ j ∈ (Rect.unit (s := S8192x4096) ![off i, 0] (panel i).size (inbO i)).set := by
    rw [show oS i = _ from View.set_slice_whole main_v0 (Rect.unit (s := S8192x4096) ![off i, 0] (panel i).size (inbO i))]
  rw [h, Rect.mem_set_unit]
  constructor
  · intro h; exact h 0
  · intro h a
    fin_cases a
    · exact h
    · exact ⟨Nat.zero_le _, by have := (j 1).isLt; simpa using this⟩

/-- Row `j`'s columns as the input's plane has them. -/
def planeIdx (j : S8192x4096.Idx) : S4x8192x4096.Idx := fun a => match a with
  | ⟨0, _⟩ => (2 : Fin 4)
  | ⟨1, _⟩ => j 0
  | ⟨2, _⟩ => j 1

/-- The plane of the input the kernel copies. -/
def plane2 {α : Type} (x : S4x8192x4096.Idx → α) : S8192x4096.Idx → α := fun j => x (planeIdx j)

/-- What chunk `i` reads of the input is, row by row, the plane at the rows it writes. -/
theorem xM_emb (i : ℕ) (p : (panel i).Idx) : (xM i).view.emb p = planeIdx ((oM i).view.emb p) := by
  have h : (xM i).view.emb p = (Rect.unit (s := S4x8192x4096) ![2, off i, 0] (plane i).size (inbX i)).emb
      (Shape.reshapeEquiv (squeezes i).numel_eq p) := rfl
  have h' : (oM i).view.emb p = (Rect.unit (s := S8192x4096) ![off i, 0] (panel i).size (inbO i)).emb p := rfl
  rw [h, h', show Shape.reshapeEquiv (squeezes i).numel_eq p = _ from Shape.reshapeEquiv_cons_one (squeezes i).numel_eq p]
  funext a
  match a with
  | ⟨0, _⟩ => rfl
  | ⟨1, _⟩ => rfl
  | ⟨2, _⟩ => rfl

/-- Writing what was read of the input over the output's chunk leaves the plane there. -/
theorem write_chunk (i : ℕ) (x : S4x8192x4096.Idx → Elt F .f32) (f : S8192x4096.Idx → Elt F .f32) :
    ∀ j ∈ oS i, (oM i).view.write (Elt F) f ((xM i).view.read (Elt F) x) Finset.univ j = plane2 x j := by
  intro j hj
  obtain ⟨p, -, rfl⟩ := Finset.mem_map.mp hj
  rw [View.write_emb_of_mem _ _ (Finset.mem_univ p), View.read_apply, xM_emb]
  rfl

/-! ## What is held -/

variable (c : Dev nD) (x : S4x8192x4096.Idx → Elt F .f32) (f₀ : S8192x4096.Idx → Elt F .f32)

/-- The two shares of the input: even chunks read under one, odd chunks under the other. -/
def half (i : ℕ) : PosShare TreeShare := if i % 2 = 0 then fullShare.left else fullShare.right

/-- The input, at chunk `i`'s share. -/
def Src (i : ℕ) : sProp 𝕄 := xL c ↦[Finset.univ]{half i} x
/-- Chunk `i`'s slot at any contents, -/
def Slot (i : ℕ) : sProp 𝕄 := iprop(∃ g : Buf (Elt F) (bL c), bL c ↦[slotSet (i % 4)]{fullShare} g)
/-- and holding the chunk. -/
def Filled (i : ℕ) : sProp 𝕄 :=
  iprop(∃ g : Buf (Elt F) (bL c), ⌜(bM i).view.read (Elt F) g = (xM i).view.read (Elt F) x⌝ ∗ bL c ↦[slotSet (i % 4)]{fullShare} g)
/-- The cell of chunk `i`'s read at zero, -/
def InCell (i : ℕ) : sProp 𝕄 := semVal ((c : Thread nD τ), SemLoc.dma (inSem i)) 0
/-- and the cell of its write. -/
def OutCell (i : ℕ) : sProp 𝕄 := semVal ((c : Thread nD τ), SemLoc.dma (outSem i)) 0
/-- The output's rows from chunk `i` on, not yet written, -/
def Todo (i : ℕ) : sProp 𝕄 := oL c ↦[above (off i)]{fullShare} f₀
/-- and those before it, already holding the plane. -/
def Done (i : ℕ) : sProp 𝕄 := oL c ↦[below (off i)]{fullShare} plane2 x
/-- Nothing owed. -/
def Owe : sProp 𝕄 := iprop(∃ W, owes (c : Thread nD τ) 0 W)

/-- Chunk `i`'s read in flight. -/
def Reading (i : ℕ) : sProp 𝕄 :=
  iprop(Flight (countersEmb (U := Pipeline.UD sig nD τ)) (c : Thread nD τ) (.dma (inSem i)) () (bM i).view.dmaCredit
      iprop(Filled c x i ∗ xL c ↦[xS i]{half i} x)
    ∗ xL c ↦[Finset.univ \ xS i]{half i} x)
/-- Chunk `i`'s write in flight. -/
def Writing (i : ℕ) : sProp 𝕄 :=
  iprop(∃ g : Buf (Elt F) (bL c), Flight (countersEmb (U := Pipeline.UD sig nD τ)) (c : Thread nD τ) (.dma (outSem i)) () (oM i).view.dmaCredit
      iprop((oL c ↦[oS i]{fullShare} plane2 x) ∗ bL c ↦[bS i]{fullShare} g)
    ∗ bL c ↦[slotSet (i % 4) \ bS i]{fullShare} g)

/-! ## The output's rows, chunk by chunk -/

/-- The next chunk leaves the rows still to write. -/
theorem Todo_split (i : ℕ) : Todo (F := F) c f₀ i ⊢ iprop((oL c ↦[oS i]{fullShare} f₀) ∗ Todo c f₀ (i + 1)) := by
  have hs : oS i ⊆ above (off i) := fun j hj => by
    have := (mem_oS i j).mp hj
    simp only [above, Finset.mem_filter, Finset.mem_univ, true_and]; omega
  have hd : above (off i) \ oS i = above (off (i + 1)) := by
    ext j
    simp only [Finset.mem_sdiff, mem_oS, above, Finset.mem_filter, Finset.mem_univ, true_and, off_succ]; omega
  unfold Todo
  rw [← hd]
  exact (pointsTo_split_subset hs).1

/-- A written chunk joins the rows already written. -/
theorem Done_join (i : ℕ) : iprop((oL c ↦[oS i]{fullShare} plane2 x) ∗ Done (F := F) c x i) ⊢ Done c x (i + 1) := by
  have hs : oS i ⊆ below (off (i + 1)) := fun j hj => by
    have := (mem_oS i j).mp hj
    simp only [below, Finset.mem_filter, Finset.mem_univ, true_and, off_succ]; omega
  have hd : below (off (i + 1)) \ oS i = below (off i) := by
    ext j
    simp only [Finset.mem_sdiff, mem_oS, below, Finset.mem_filter, Finset.mem_univ, true_and, off_succ]; omega
  unfold Done
  rw [← hd]
  exact (pointsTo_split_subset hs).2

/-! ## The four steps -/

/-- A chunk's matrix has elements. -/
theorem panel_pos {i : ℕ} (hi : i < 22) : 0 < (panel i).numel := by
  have := rows_pos i hi
  simp [Shape.numel, Fin.prod_univ_two]; omega

/-- The run of a program on core `c` to the postcondition `Q`. -/
abbrev Runs (p : P (F := F)) (Q : PUnit.{1} → sProp 𝕄) : sProp 𝕄 :=
  wp frame (wpE (defs₀ (F := F)) Variants.none (c : Thread nD τ) none) Set.univ p Q

/-- Starting a read takes the input's share, the slot and the cell, and leaves the read in flight. -/
theorem inStart_spec {Q : PUnit.{1} → sProp 𝕄} {i : ℕ} (hi : i < 22) (k : P (F := F)) :
    iprop(Src c x i ∗ Slot c i ∗ InCell c i) ⊢ iprop((Reading c x i -∗ Runs c k Q) -∗ Runs c (inStart i k) Q) := by
  unfold Src Slot InCell
  iintro ⟨Hx, ⟨%g, Hb⟩, Hs⟩ Hk
  icases (pointsTo_split_subset (Finset.subset_univ (xS i))).1 $$ Hx with ⟨Hx, Hx'⟩
  unfold inStart
  iapply (wp_dmaLocal (countersEmb (U := Pipeline.UD sig nD τ)) Variants.none (c : Thread nD τ) none () (bM i).view.dmaCredit rfl
    ((bM i).view.dmaCredit_pos (panel_pos hi)) (bS_sub i)) $$ [Hx Hb Hs]
  · isplitl [Hx]; · iexact Hx
    isplitl [Hb]; · iexact Hb
    iexact Hs
  iintro Hf
  iapply Hk
  unfold Reading
  isplitl [Hf]
  · iapply (Flight_mono (countersEmb (U := Pipeline.UD sig nD τ)) (c : Thread nD τ) ?_) $$ Hf
    iintro ⟨Hb, Hx⟩
    isplitl [Hb]
    · unfold Filled
      iexists ((bM i).view.write (Elt F) g ((xM i).view.read (Elt F) x) Finset.univ)
      isplitr
      · ipureintro; exact View.read_write_univ _ _
      iexact Hb
    iexact Hx
  iexact Hx'

/-- Waiting for a read gives back the input's share and the cell, and the slot filled. -/
theorem inWait_spec {Q : PUnit.{1} → sProp 𝕄} {i : ℕ} (k : P (F := F)) :
    iprop(Reading c x i ∗ Owe c) ⊢ iprop((iprop(Src c x i ∗ Filled c x i ∗ InCell c i ∗ Owe c) -∗ Runs c k Q) -∗ Runs c (inWait i k) Q) := by
  unfold Reading Owe
  iintro ⟨⟨Hf, Hx'⟩, ⟨%W, HW⟩⟩ Hk
  unfold inWait
  iapply (wp_waitLocal (countersEmb (U := Pipeline.UD sig nD τ)) Variants.none (c : Thread nD τ) none () rfl) $$ [Hf HW]
  · isplitl [Hf]; · iexact Hf
    iexact HW
  iintro ⟨⟨Hb, Hx⟩, Hs, HW⟩
  iapply Hk
  unfold Src InCell
  isplitl [Hx Hx']
  · iapply (pointsTo_split_subset (Finset.subset_univ (xS i))).2
    isplitl [Hx]; · iexact Hx
    iexact Hx'
  isplitl [Hb]; · iexact Hb
  isplitl [Hs]; · iexact Hs
  iexists _; iexact HW

/-- Starting a write takes the filled slot, the next rows and the cell, and leaves the write in flight. -/
theorem outStart_spec {Q : PUnit.{1} → sProp 𝕄} {i : ℕ} (hi : i < 22) (k : P (F := F)) :
    iprop(Filled c x i ∗ Todo c f₀ i ∗ OutCell c i)
      ⊢ iprop((iprop(Writing c x i ∗ Todo c f₀ (i + 1)) -∗ Runs c k Q) -∗ Runs c (outStart i k) Q) := by
  unfold Filled OutCell
  iintro ⟨⟨%g, %hg, Hb⟩, Ho, Hs⟩ Hk
  icases (Todo_split c f₀ i) $$ Ho with ⟨Ho, Ho'⟩
  icases (pointsTo_split_subset (bS_sub i)).1 $$ Hb with ⟨Hb, Hb'⟩
  unfold outStart
  iapply (wp_dmaLocal (countersEmb (U := Pipeline.UD sig nD τ)) Variants.none (c : Thread nD τ) none () (oM i).view.dmaCredit rfl
    ((oM i).view.dmaCredit_pos (panel_pos hi)) (Finset.Subset.refl (oS i))) $$ [Hb Ho Hs]
  · isplitl [Hb]; · iexact Hb
    isplitl [Ho]; · iexact Ho
    iexact Hs
  iintro Hf
  iapply Hk
  isplitr [Ho']
  · unfold Writing
    iexists g
    isplitl [Hf]
    · iapply (Flight_mono (countersEmb (U := Pipeline.UD sig nD τ)) (c : Thread nD τ) ?_) $$ Hf
      refine sep_mono_left (Entails.of_eq (pointsTo_congr ?_))
      intro j hj
      have h := write_chunk i x f₀ j hj
      rw [← hg] at h
      exact h
    iexact Hb'
  iexact Ho'

/-- Waiting for a write gives back the slot and the cell, and the rows written join the others. -/
theorem outWait_spec {Q : PUnit.{1} → sProp 𝕄} {i : ℕ} (k : P (F := F)) :
    iprop(Writing c x i ∗ Done c x i ∗ Owe c)
      ⊢ iprop((iprop(Done c x (i + 1) ∗ Slot c i ∗ OutCell c i ∗ Owe c) -∗ Runs c k Q) -∗ Runs c (outWait i k) Q) := by
  unfold Writing Owe
  iintro ⟨⟨%g, Hf, Hb'⟩, Hd, ⟨%W, HW⟩⟩ Hk
  unfold outWait
  iapply (wp_waitLocal (countersEmb (U := Pipeline.UD sig nD τ)) Variants.none (c : Thread nD τ) none () rfl) $$ [Hf HW]
  · isplitl [Hf]; · iexact Hf
    iexact HW
  iintro ⟨⟨Ho, Hb⟩, Hs, HW⟩
  iapply Hk
  isplitl [Ho Hd]
  · iapply (Done_join c x i)
    isplitl [Ho]; · iexact Ho
    iexact Hd
  isplitl [Hb Hb']
  · unfold Slot
    iexists g
    iapply (pointsTo_split_subset (bS_sub i)).2
    isplitl [Hb]; · iexact Hb
    iexact Hb'
  isplitl [Hs]; · unfold OutCell; iexact Hs
  iexists _; iexact HW

end Cert.Kernel.Hand

end
-- ==== Proof.Body.lean ====
/-
  The kernel's body: the schedule run from the buffers as the call finds them to the output holding the
  plane, by the four step rules and one induction over the steady iterations.
-/
module

public import proofs.«01_k».proof.Proof.Steps

@[expose] public section

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The proof's user algebra: the pipeline library's beside the transfers' counters. -/
local notation "𝕄" => MT nD τ sig Unit (Elt F) ℕ (Pipeline.UD sig nD τ) ℕ

variable (c : Dev nD) (x : S4x8192x4096.Idx → Elt F .f32) (f₀ : S8192x4096.Idx → Elt F .f32)

/-! ## Chunks four apart use the same slot, cells and share -/

/-- A cell of an array of four depends on the chunk's slot alone. -/
theorem cell_mod (a : DmaSems sig S4) (i : ℕ) : cell a i = cell a (i % 4) := by
  have h : ∀ (s t : ℕ) (hs : ∀ a, (![s] : Fin 1 → ℕ) a + S1.size a ≤ S4.size a) (ht : ∀ a, (![t] : Fin 1 → ℕ) a + S1.size a ≤ S4.size a), s = t →
      ((a.slice (Rect.unit (s := S4) ![s] S1.size hs)).squeeze S_ squeezes_S1_S_).sem
        = ((a.slice (Rect.unit (s := S4) ![t] S1.size ht)).squeeze S_ squeezes_S1_S_).sem := by
    rintro s _ _ _ rfl; rfl
  exact h _ _ (inbS i) (inbS (i % 4)) (Nat.mod_mod i 4).symm

/-- A slot held for one chunk is held for any chunk using the same slot. -/
theorem Slot_to {i j : ℕ} (h : i % 4 = j % 4) : Slot (F := F) c i ⊢ Slot c j := by
  unfold Slot; rw [h]
/-- Likewise the cell of its read, -/
theorem InCell_to {i j : ℕ} (h : i % 4 = j % 4) : InCell (F := F) c i ⊢ InCell c j := by
  unfold InCell inSem; rw [cell_mod _ i, cell_mod _ j, h]
/-- the cell of its write, -/
theorem OutCell_to {i j : ℕ} (h : i % 4 = j % 4) : OutCell (F := F) c i ⊢ OutCell c j := by
  unfold OutCell outSem; rw [cell_mod _ i, cell_mod _ j, h]
/-- and the share of the input it reads under. -/
theorem Src_to {i j : ℕ} (h : i % 2 = j % 2) : Src (F := F) c x i ⊢ Src c x j := by
  unfold Src half; rw [h]

/-! ## The steady iterations -/

/-- Between two steady iterations: chunks `i` and `i + 1` are being written, `i + 2` and `i + 3` being read,
    the rows of the chunks below `i` hold the plane, those from chunk `i + 2` are untouched. -/
def Inv (i : ℕ) : sProp 𝕄 :=
  iprop(Reading c x (i + 2) ∗ Reading c x (i + 3) ∗ Writing c x i ∗ Writing c x (i + 1)
    ∗ InCell c i ∗ InCell c (i + 1) ∗ OutCell c (i + 2) ∗ OutCell c (i + 3)
    ∗ Todo c f₀ (i + 2) ∗ Done c x i ∗ Owe c)

/-- `n` steady iterations keep the invariant, `n` chunks on. -/
theorem steady_spec {Q : PUnit.{1} → sProp 𝕄} (n i : ℕ) (hi : i + n + 4 ≤ 22) (k : P (F := F)) :
    Inv c x f₀ i ⊢ iprop((Inv c x f₀ (i + n) -∗ Runs c k Q) -∗ Runs c (steady n i k) Q) := by
  induction n generalizing i with
  | zero =>
    iintro H Hk
    unfold steady
    iapply Hk $$ H
  | succ n ih =>
    unfold Inv
    iintro ⟨Hr, Hr', Hw, Hw', Hi, Hi', Ho, Ho', Ht, Hd, HO⟩ Hk
    unfold steady
    iapply (inWait_spec c x (i := i + 2)) $$ [Hr HO]
    · isplitl [Hr] <;> iassumption
    iintro ⟨Hx, Hb, Hi2, HO⟩
    iapply (outStart_spec c x f₀ (i := i + 2) (by omega)) $$ [Hb Ht Ho]
    · isplitl [Hb]; · iexact Hb
      isplitl [Ht] <;> iassumption
    iintro ⟨Hw2, Ht⟩
    iapply (outWait_spec c x (i := i)) $$ [Hw Hd HO]
    · isplitl [Hw]; · iexact Hw
      isplitl [Hd] <;> iassumption
    iintro ⟨Hd, Hb, Ho, HO⟩
    iapply (inStart_spec c x (i := i + 4) (by omega)) $$ [Hx Hb Hi]
    · isplitl [Hx]; · iapply (Src_to c x (by omega)) $$ Hx
      isplitl [Hb]; · iapply (Slot_to c (by omega)) $$ Hb
      iapply (InCell_to c (by omega)) $$ Hi
    iintro Hr
    have hn := ih (i + 1) (by omega)
    rw [show i + 1 + n = i + (n + 1) by omega] at hn
    unfold Inv at hn
    iapply hn $$ [-Hk]
    · isplitl [Hr']; · iexact Hr'
      isplitl [Hr]; · iexact Hr
      isplitl [Hw']; · iexact Hw'
      isplitl [Hw2]; · iexact Hw2
      isplitl [Hi']; · iexact Hi'
      isplitl [Hi2]; · iexact Hi2
      isplitl [Ho']; · iexact Ho'
      isplitl [Ho]; · iapply (OutCell_to c (by omega)) $$ Ho
      isplitl [Ht]; · iexact Ht
      isplitl [Hd] <;> iassumption
    iexact Hk

/-! ## The whole copy -/

/-- The buffers and cells at rest: both shares of the input, four slots, eight cells. -/
def Rest : sProp 𝕄 :=
  iprop((Src c x 0 ∗ Src c x 1) ∗ (Slot c 0 ∗ Slot c 1 ∗ Slot c 2 ∗ Slot c 3)
    ∗ (InCell c 0 ∗ InCell c 1 ∗ InCell c 2 ∗ InCell c 3) ∗ (OutCell c 0 ∗ OutCell c 1 ∗ OutCell c 2 ∗ OutCell c 3) ∗ Owe c)

/-- The copy fills the output with the plane and leaves the rest as it found it. -/
theorem copy_spec :
    iprop(Rest c x ∗ Todo c f₀ 0 ∗ Done c x 0)
      ⊢ Runs c (copy (F := F)) (fun _ => iprop(Rest c x ∗ Done c x 22)) := by
  unfold Rest copy
  iintro ⟨⟨⟨Hx0, Hx1⟩, ⟨Hb0, Hb1, Hb2, Hb3⟩, ⟨Hi0, Hi1, Hi2, Hi3⟩, ⟨Ho0, Ho1, Ho2, Ho3⟩, HO⟩, Ht, Hd⟩
  iapply (inStart_spec c x (i := 0) (by omega)) $$ [Hx0 Hb0 Hi0]
  · isplitl [Hx0]; · iexact Hx0
    isplitl [Hb0] <;> iassumption
  iintro Hr0
  iapply (inStart_spec c x (i := 1) (by omega)) $$ [Hx1 Hb1 Hi1]
  · isplitl [Hx1]; · iexact Hx1
    isplitl [Hb1] <;> iassumption
  iintro Hr1
  -- chunks 0 and 1: read, write started, the reads two ahead started
  iapply (inWait_spec c x (i := 0)) $$ [Hr0 HO]
  · isplitl [Hr0] <;> iassumption
  iintro ⟨Hx0, Hb0, Hi0, HO⟩
  iapply (outStart_spec c x f₀ (i := 0) (by omega)) $$ [Hb0 Ht Ho0]
  · isplitl [Hb0]; · iexact Hb0
    isplitl [Ht] <;> iassumption
  iintro ⟨Hw0, Ht⟩
  iapply (inStart_spec c x (i := 2) (by omega)) $$ [Hx0 Hb2 Hi2]
  · isplitl [Hx0]; · iapply (Src_to c x rfl) $$ Hx0
    isplitl [Hb2] <;> iassumption
  iintro Hr2
  iapply (inWait_spec c x (i := 1)) $$ [Hr1 HO]
  · isplitl [Hr1] <;> iassumption
  iintro ⟨Hx1, Hb1, Hi1, HO⟩
  iapply (outStart_spec c x f₀ (i := 1) (by omega)) $$ [Hb1 Ht Ho1]
  · isplitl [Hb1]; · iexact Hb1
    isplitl [Ht] <;> iassumption
  iintro ⟨Hw1, Ht⟩
  iapply (inStart_spec c x (i := 3) (by omega)) $$ [Hx1 Hb3 Hi3]
  · isplitl [Hx1]; · iapply (Src_to c x rfl) $$ Hx1
    isplitl [Hb3] <;> iassumption
  iintro Hr3
  -- chunks 2 to 19
  have hs := steady_spec c x f₀ (Q := fun _ => iprop(Rest c x ∗ Done c x 22)) 18 0 (by omega)
  unfold Inv at hs
  unfold Rest at hs
  iapply hs $$ [-]
  · isplitl [Hr2]; · iexact Hr2
    isplitl [Hr3]; · iexact Hr3
    isplitl [Hw0]; · iexact Hw0
    isplitl [Hw1]; · iexact Hw1
    isplitl [Hi0]; · iexact Hi0
    isplitl [Hi1]; · iexact Hi1
    isplitl [Ho2]; · iexact Ho2
    isplitl [Ho3]; · iexact Ho3
    isplitl [Ht]; · iexact Ht
    isplitl [Hd] <;> iassumption
  iintro ⟨Hr20, Hr21, Hw18, Hw19, Hi2, Hi3, Ho0, Ho1, Ht, Hd, HO⟩
  -- the last two chunks
  iapply (inWait_spec c x (i := 20)) $$ [Hr20 HO]
  · isplitl [Hr20] <;> iassumption
  iintro ⟨Hx0, Hb0, Hi0, HO⟩
  iapply (outStart_spec c x f₀ (i := 20) (by omega)) $$ [Hb0 Ht Ho0]
  · isplitl [Hb0]; · iexact Hb0
    isplitl [Ht] <;> iassumption
  iintro ⟨Hw20, Ht⟩
  iapply (inWait_spec c x (i := 21)) $$ [Hr21 HO]
  · isplitl [Hr21] <;> iassumption
  iintro ⟨Hx1, Hb1, Hi1, HO⟩
  iapply (outStart_spec c x f₀ (i := 21) (by omega)) $$ [Hb1 Ht Ho1]
  · isplitl [Hb1]; · iexact Hb1
    isplitl [Ht] <;> iassumption
  iintro ⟨Hw21, -⟩
  -- the last four writes land
  iapply (outWait_spec c x (i := 18)) $$ [Hw18 Hd HO]
  · isplitl [Hw18]; · iexact Hw18
    isplitl [Hd] <;> iassumption
  iintro ⟨Hd, Hb2, Ho2, HO⟩
  iapply (outWait_spec c x (i := 19)) $$ [Hw19 Hd HO]
  · isplitl [Hw19]; · iexact Hw19
    isplitl [Hd] <;> iassumption
  iintro ⟨Hd, Hb3, Ho3, HO⟩
  iapply (outWait_spec c x (i := 20)) $$ [Hw20 Hd HO]
  · isplitl [Hw20]; · iexact Hw20
    isplitl [Hd] <;> iassumption
  iintro ⟨Hd, Hb0, Ho0, HO⟩
  iapply (outWait_spec c x (i := 21)) $$ [Hw21 Hd HO]
  · isplitl [Hw21]; · iexact Hw21
    isplitl [Hd] <;> iassumption
  iintro ⟨Hd, Hb1, Ho1, HO⟩
  iapply (le_wp_ret (Fr := frame) _ _)
  isplitr [Hd]
  · isplitl [Hx0 Hx1]
    · isplitl [Hx0]; · iapply (Src_to c x rfl) $$ Hx0
      iapply (Src_to c x rfl) $$ Hx1
    isplitl [Hb0 Hb1 Hb2 Hb3]
    · isplitl [Hb0]; · iapply (Slot_to c rfl) $$ Hb0
      isplitl [Hb1]; · iapply (Slot_to c rfl) $$ Hb1
      isplitl [Hb2]; · iapply (Slot_to c rfl) $$ Hb2
      iapply (Slot_to c rfl) $$ Hb3
    isplitl [Hi0 Hi1 Hi2 Hi3]
    · isplitl [Hi0]; · iapply (InCell_to c rfl) $$ Hi0
      isplitl [Hi1]; · iapply (InCell_to c rfl) $$ Hi1
      isplitl [Hi2]; · iapply (InCell_to c rfl) $$ Hi2
      iapply (InCell_to c rfl) $$ Hi3
    isplitl [Ho0 Ho1 Ho2 Ho3]
    · isplitl [Ho0]; · iapply (OutCell_to c rfl) $$ Ho0
      isplitl [Ho1]; · iapply (OutCell_to c rfl) $$ Ho1
      isplitl [Ho2]; · iapply (OutCell_to c rfl) $$ Ho2
      iapply (OutCell_to c rfl) $$ Ho3
    iexact HO
  iexact Hd

end Cert.Kernel.Hand

end
-- ==== Proof.Launch.lean ====
/-
  The launch: the buffers and cells the call is given, cut into what the schedule holds and put
  together again, and the run of the whole program from any memory to the output holding the plane.
-/
module

public import proofs.«01_k».proof.Proof.Body
public import Idealize.ShloMosaic.Lib.Pipeline.FrameValue

@[expose] public section

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

/-- The proof's user algebra: the pipeline library's beside the transfers' counters. -/
local notation "𝕄" => MT nD τ sig Unit (Elt F) ℕ (Pipeline.UD sig nD τ) ℕ

variable (c : Dev nD) (x : S4x8192x4096.Idx → Elt F .f32) (f₀ : S8192x4096.Idx → Elt F .f32)

/-! ## The ring, slot by slot -/

/-- The ring from slot `s` on, at any contents. -/
def From (s : ℕ) : sProp 𝕄 :=
  iprop(∃ g : Buf (Elt F) (bL c), bL c ↦[Finset.univ.filter fun j : S4x512x4096.Idx => s ≤ (j 0 : ℕ)]{fullShare} g)

/-- A slot of the ring is no part of the slots after it, -/
theorem slot_disjoint (s : ℕ) :
    Disjoint (slotSet s) (Finset.univ.filter fun j : S4x512x4096.Idx => s + 1 ≤ (j 0 : ℕ)) := by
  rw [Finset.disjoint_left]
  intro j hj hj'
  simp only [slotSet, Finset.mem_filter, Finset.mem_univ, true_and] at hj hj'
  omega

/-- and with them makes up the ring from that slot on. -/
theorem slot_union (s : ℕ) :
    (Finset.univ.filter fun j : S4x512x4096.Idx => s ≤ (j 0 : ℕ))
      = slotSet s ∪ Finset.univ.filter fun j : S4x512x4096.Idx => s + 1 ≤ (j 0 : ℕ) := by
  ext j
  simp only [slotSet, Finset.mem_union, Finset.mem_filter, Finset.mem_univ, true_and]
  omega

/-- The next slot taken off the ring, -/
theorem From_take {s : ℕ} (hs : s < 4) : From (F := F) c s ⊢ iprop(Slot c s ∗ From c (s + 1)) := by
  unfold From Slot
  rw [Nat.mod_eq_of_lt hs, slot_union s]
  iintro ⟨%g, H⟩
  icases (pointsTo_union (slot_disjoint s)).1 $$ H with ⟨Hs, H⟩
  isplitl [Hs]
  · iexists g; iexact Hs
  iexists g; iexact H

/-- and put back. -/
theorem From_put {s : ℕ} (hs : s < 4) : iprop(Slot (F := F) c s ∗ From c (s + 1)) ⊢ From c s := by
  unfold From Slot
  rw [Nat.mod_eq_of_lt hs, slot_union s]
  iintro ⟨⟨%g, Hs⟩, %g', H⟩
  iexists _
  iapply (pointsTo_join (slot_disjoint s)) $$ [Hs H]
  isplitl [Hs] <;> iassumption

/-- The ring from slot 0 on is the whole scratch buffer. -/
theorem From_zero : From (F := F) c 0 = iprop(∃ g : Buf (Elt F) (bL c), bL c ↦{fullShare} g) := by
  unfold From
  rw [show (Finset.univ.filter fun j : S4x512x4096.Idx => 0 ≤ (j 0 : ℕ)) = Finset.univ from
    Finset.filter_true_of_mem fun _ _ => Nat.zero_le _]

/-! ## The input's two shares, and the output before and after -/

/-- The whole input is its two shares. -/
theorem Src_halves : (xL c ↦{fullShare} x : sProp 𝕄) ⊣⊢ iprop(Src c x 0 ∗ Src c x 1) :=
  pointsTo_share (PosShare.mem_left_op_right fullShare)

/-- Before the first chunk all of the output is still to write, -/
theorem Todo_zero : Todo (F := F) c f₀ 0 = (oL c ↦{fullShare} f₀ : sProp 𝕄) := by
  unfold Todo
  rw [show above (off 0) = Finset.univ from Finset.filter_true_of_mem fun _ _ => Nat.zero_le _]

/-- and none of it is written; -/
theorem Done_zero : Done (F := F) c x 0 = (iprop(emp) : sProp 𝕄) := by
  unfold Done
  rw [show below (off 0) = ∅ from Finset.filter_false_of_mem fun _ _ => Nat.not_lt_zero _, pointsTo_empty]

/-- after the last, all of it is. -/
theorem Done_last : Done (F := F) c x 22 = (oL c ↦{fullShare} plane2 x : sProp 𝕄) := by
  unfold Done
  rw [show below (off 22) = Finset.univ from Finset.filter_true_of_mem fun j _ => (j 0).isLt]

/-! ## What the launch hands the body -/

variable (m : (ℓ : Loc nD τ sig) → Buf (Elt F) ℓ) (ρ : Dev nD → PrngReg)

/-- The unscoped buffers' contents when the call starts, -/
abbrev V (c : Dev nD) (b : Ref sig .tc) : Buf (Elt F) ((c : Thread nD τ).loc b) := m ((c : Thread nD τ).loc b)

/-- and when it returns: the output at the plane, the others as they were. -/
def G (c : Dev nD) : (b : Ref sig .tc) → Buf (Elt F) ((c : Thread nD τ).loc b) :=
  Function.update (V m c) main_v0 (plane2 (m (xL c)))

/-- The output's contents when the call returns. -/
theorem G_out : G m c main_v0 = plane2 (m (xL c)) := Function.update_self ..

/-- The buffer the body reads, -/
def H0 : Finset (Ref sig .tc) := {main_arg0}
/-- the buffer it writes, -/
def R0 : Finset (Ref sig .tc) := {main_v0}
/-- and its eight cells: four for reads, four for writes. -/
abbrev osem0 : Fin 8 → SemLoc sig := fun j => SemLoc.dma (![0, 1, 2, 3, 4, 5, 6, 7] j)

/-- The cells are scoped and distinct; -/
theorem ownSemFacts0 : Pipeline.OwnSemFacts cfg0.spec osem0 := by decide
/-- the input is no window's array, -/
theorem H0_sub : H0 ⊆ Pipeline.restRefs sig cfg0.spec := by decide
/-- nor is the output, which is not the input either. -/
theorem R0_sub : R0 ⊆ Pipeline.restRefs sig cfg0.spec \ H0 := by decide

/-- The eight cells at zero, named as the schedule names them. -/
theorem cells_eq : (Pipeline.ownSems0 (Ix := Unit) (Name := ℕ) (U := Pipeline.UD sig nD τ) (Lvl := ℕ) (Val := Elt F) (τ := τ) osem0 c : sProp 𝕄)
    = iprop(InCell c 0 ∗ InCell c 1 ∗ InCell c 2 ∗ InCell c 3 ∗ OutCell c 0 ∗ OutCell c 1 ∗ OutCell c 2 ∗ OutCell c 3) := by
  rw [Pipeline.ownSems0_eq_of_list c osem0 [0, 1, 2, 3, 4, 5, 6, 7] (by decide) (by decide)]; rfl

/-- What the call holds outside the run, the output at `W`. -/
abbrev Held (W : (c : Dev nD) → (b : Ref sig .tc) → Buf (Elt F) ((c : Thread nD τ).loc b)) (c : Dev nD) : sProp 𝕄 :=
  Pipeline.ΦDRG osem0 cfg0.spec H0 R0 (V m) W c

/-- It is the ring, the generator's register, the eight cells, the input and the output. -/
theorem Held_eq (W : (c : Dev nD) → (b : Ref sig .tc) → Buf (Elt F) ((c : Thread nD τ).loc b)) : Held m W c
    = iprop(From c 0 ∗ (∃ r, prngReg c r)
        ∗ (InCell c 0 ∗ InCell c 1 ∗ InCell c 2 ∗ InCell c 3 ∗ OutCell c 0 ∗ OutCell c 1 ∗ OutCell c 2 ∗ OutCell c 3)
        ∗ (xL c ↦{fullShare} m (xL c)) ∗ (oL c ↦{fullShare} W c main_v0)) := by
  unfold Held
  rw [Pipeline.ΦDRG_eq, cells_eq, show Pipeline.scopedRest cfg0.spec c = _ from scopedRest0_eq c, ← From_zero,
    show H0 = {main_arg0} from rfl, show R0 = {main_v0} from rfl, BI.bigSep_singleton, Pipeline.routed_singleton]

/-- From what the call holds, the schedule's resources and what it leaves alone; -/
theorem enter : iprop(Held m (V m) c ∗ Owe c)
    ⊢ iprop((Rest c (m (xL c)) ∗ Todo c (m (oL c)) 0 ∗ Done c (m (xL c)) 0) ∗ ((∃ r, prngReg c r) ∗ From c 4)) := by
  rw [Held_eq, Todo_zero, Done_zero]
  unfold Rest
  iintro ⟨⟨Hb, Hp, ⟨Hi0, Hi1, Hi2, Hi3, Ho0, Ho1, Ho2, Ho3⟩, Hx, Ho⟩, HO⟩
  icases (From_take c (s := 0) (by omega)) $$ Hb with ⟨Hb0, Hb⟩
  icases (From_take c (s := 1) (by omega)) $$ Hb with ⟨Hb1, Hb⟩
  icases (From_take c (s := 2) (by omega)) $$ Hb with ⟨Hb2, Hb⟩
  icases (From_take c (s := 3) (by omega)) $$ Hb with ⟨Hb3, Hb⟩
  isplitr [Hp Hb]
  · isplitr [Ho]
    · isplitl [Hx]; · iapply (Src_halves c _).1 $$ Hx
      isplitl [Hb0 Hb1 Hb2 Hb3]
      · isplitl [Hb0]; · iexact Hb0
        isplitl [Hb1]; · iexact Hb1
        isplitl [Hb2] <;> iassumption
      isplitl [Hi0 Hi1 Hi2 Hi3]
      · isplitl [Hi0]; · iexact Hi0
        isplitl [Hi1]; · iexact Hi1
        isplitl [Hi2] <;> iassumption
      isplitr [HO]
      · isplitl [Ho0]; · iexact Ho0
        isplitl [Ho1]; · iexact Ho1
        isplitl [Ho2] <;> iassumption
      iexact HO
    isplitl; · iexact Ho
    iempintro
  isplitl [Hp] <;> iassumption

/-- and back, the output at the plane. -/
theorem leave : iprop((Rest c (m (xL c)) ∗ Done c (m (xL c)) 22) ∗ ((∃ r, prngReg c r) ∗ From c 4))
    ⊢ iprop(Held m (G m) c ∗ Owe c) := by
  rw [Held_eq, Done_last, G_out]
  unfold Rest
  iintro ⟨⟨⟨Hx, ⟨Hb0, Hb1, Hb2, Hb3⟩, ⟨Hi0, Hi1, Hi2, Hi3⟩, ⟨Ho0, Ho1, Ho2, Ho3⟩, HO⟩, Ho⟩, ⟨Hp, Hb⟩⟩
  isplitr [HO]
  · isplitl [Hb0 Hb1 Hb2 Hb3 Hb]
    · iapply (From_put c (s := 0) (by omega)) $$ [-]
      isplitl [Hb0]; · iexact Hb0
      iapply (From_put c (s := 1) (by omega)) $$ [-]
      isplitl [Hb1]; · iexact Hb1
      iapply (From_put c (s := 2) (by omega)) $$ [-]
      isplitl [Hb2]; · iexact Hb2
      iapply (From_put c (s := 3) (by omega)) $$ [-]
      isplitl [Hb3] <;> iassumption
    isplitl [Hp]; · iexact Hp
    isplitr [Hx Ho]
    · isplitl [Hi0]; · iexact Hi0
      isplitl [Hi1]; · iexact Hi1
      isplitl [Hi2]; · iexact Hi2
      isplitl [Hi3]; · iexact Hi3
      isplitl [Ho0]; · iexact Ho0
      isplitl [Ho1]; · iexact Ho1
      isplitl [Ho2] <;> iassumption
    isplitl [Hx]; · iapply (Src_halves c _).2 $$ Hx
    iexact Ho
  iexact HO

/-- The body, from what the call holds to the same with the output at the plane. -/
theorem body_spec : iprop(Held m (V m) c ∗ Owe c) ⊢ Runs c (copy (F := F)) (fun _ => iprop(Held m (G m) c ∗ Owe c)) :=
  (enter c m).trans <| (sep_mono_left (copy_spec c (m (xL c)) (m (oL c)))).trans <|
    (wp_frame_r frame _ _).trans <| wp_mono frame _ _ fun _ => leave c m

/-! ## The run -/

/-- The program up to its one call. -/
theorem hmain : Pipeline.HMain (Ix := Unit) (Name := ℕ) (U := Pipeline.UD sig nD τ) (Lvl := ℕ) cfgs 0 defs₀ Variants.none m (main (F := F)) (V m) :=
  Pipeline.hmain_region cfgs 0 defs₀ Variants.none m main fun c => (main_chain c).trans rfl

/-- The call's proof data: no windows; what it holds is the launch's before the one point, and after it the same
    with the output at the plane. -/
def dats (_ : Fin 1) (c : Dev nD) : Dat τ (Elt F) Unit ℕ (Pipeline.UD sig nD τ) ℕ cfg0 c where
  A w := w.elim0
  after w _ := w.elim0
  Φ t := if t.val = 0 then Held m (V m) c else Held m (G m) c
  q _ := fullShare
  owed _ := 0

/-- Before the one point the call holds what it started with, -/
theorem held_before : (dats (F := F) m 0 c).Φ t0_0.castSucc = Held m (V m) c := by
  dsimp only [dats]; exact if_pos rfl
/-- and after it the output is at the plane. -/
theorem held_after : (dats (F := F) m 0 c).Φ t0_0.succ = Held m (G m) c := by
  dsimp only [dats]; exact if_neg (by decide)

/-- The body meets its obligation at the one point. -/
theorem body_obligation (c : Dev nD) : BodyObligation (dats (F := F) m 0 c) (defs₀ (F := F)) Variants.none () Set.univ := fun t => by
  rw [show (Finset.univ : Finset (Fin cfg0.W)) = ∅ from rfl, BI.bigSep_empty, BI.bigSep_empty]
  rw [show defs₀ (F := F) .tc cfg0.body (cfg0.bodyArgs t (cfg0.slots t)) = copy from kernel_eq]
  rw [show t = t0_0 from fin_N0 t, held_before, held_after]
  have h := body_spec c m
  generalize copy (F := F) = p at h ⊢
  refine BIBase.Entails.trans ?_ (h.trans (wp_mono frame _ _ fun _ => ?_))
  · unfold Owe Pipeline.Dat.owesAt Pipeline.owesWithin
    iintro ⟨HH, ⟨%W, -, HW⟩, -⟩
    isplitl [HH]; · iexact HH
    iexists W; iexact HW
  · unfold Owe Pipeline.Dat.owesAt Pipeline.owesWithin
    iintro ⟨HH, %W, HW⟩
    isplitl [HH]; · iexact HH
    isplitl [HW]
    · iexists W
      isplitr; · ipureintro; exact fun _ _ => Or.inl trivial
      iexact HW
    iempintro

set_option backward.isDefEq.respectTransparency.types false in
/-- The program's run, as the launch states it. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun _ w => w.elim0)
    (howed := fun _ _ => rfl) (V := V m) (hmain := hmain m) (hA := fun _ w => w.elim0) (G := G m)
    (hin := fun _ => .rfl) (hout := fun _ => .rfl)

/-- Every run ends with the output holding the plane, the input as it was and every counter at zero. -/
theorem run : θ_run defs (onTc (τ := τ) (main (F := F))) ⟨m, fun _ => 0, ρ⟩ (fun r => (∀ c : Dev nD,
      r.2.mem ((c.tc : Thread nD τ).loc main_v0) = plane2 (m ((c.tc : Thread nD τ).loc main_arg0))
      ∧ r.2.mem ((c.tc : Thread nD τ).loc main_arg0) = m ((c.tc : Thread nD τ).loc main_arg0))
      ∧ r.2.sem = fun _ => 0) :=
  (θ_run defs _ _).mono (fun _ h => ⟨fun c =>
    ⟨(h.1.2 c main_v0 (Finset.mem_singleton_self _)).trans (G_out c m),
      (h.1.1 c).2 main_arg0 (Finset.mem_sdiff.mpr ⟨Pipeline.mem_restRefs_of main_arg0 (by decide) (by decide), by decide⟩)⟩, h.2⟩)
    (run_main m ρ)

end Cert.Kernel.Hand

end
-- ==== Proof.Twin.lean ====
/-
  The idealized program is the program's own text read at the ideal instance: its run is the program's run there.
-/
module

public import proofs.«01_k».proof.Proof.Launch
public import proofs.«01_k».proof.Proof.Gen.KernelIdeal

@[expose] public section

noncomputable section

namespace Cert.KernelIdeal.Hand

open Cert.KernelIdeal
open Idealize.ShloMosaic Idealize.ShloMosaic.TcCoe
open Idealize.SL.Sem
open Cert.Kernel.Hand (plane2)

variable {F : FTy → Type} [FloatOps F]

/-- Every run of the idealized program ends with the output holding the plane, the input as it was and every counter
    at zero: the two programs are one text. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v0) = plane2 (m ((c.tc : Thread nD τ).loc main_arg0))
      ∧ r.2.mem ((c.tc : Thread nD τ).loc main_arg0) = m ((c.tc : Thread nD τ).loc main_arg0))
      ∧ r.2.sem = fun _ => 0) :=
  Cert.Kernel.Hand.run m ρ

end Cert.KernelIdeal.Hand

end
-- ==== Proof.Plane.lean ====
/-
  The reference: its slice read as a matrix is the plane, so each of its runs ends with the plane too.
-/
module

public import proofs.«01_k».proof.Proof.Twin
public import proofs.«01_k».proof.Proof.Gen.Reference.Run
public import proofs.«01_k».proof.Proof.Gen.ReferenceIdeal.Run
public import Idealize.ShloMosaic.Adequacy

@[expose] public section

noncomputable section

namespace Cert.Reference.Hand

open Cert.Reference Cert.Reference.Gen
open Idealize.ShloMosaic Idealize.ShloMosaic.TcCoe
open Idealize.SL.Sem
open Cert.Kernel.Hand (plane2 planeIdx)

variable {F : FTy → Type} [FloatOps F]

/-- The one-plane slice at plane 2, its leading axis dropped, is the plane. -/
theorem slice_plane {α : Type} (x : S4x8192x4096.Idx → α) :
    shapeCast S8192x4096 (extractStridedSlice S1x8192x4096 ![2, 0, 0] x slices_S4x8192x4096_S1x8192x4096_2_0_0)
      shapeCasts_S1x8192x4096_S8192x4096 = plane2 x := by
  funext j
  unfold shapeCast extractStridedSlice plane2
  rw [show Shape.reshapeEquiv shapeCasts_S1x8192x4096_S8192x4096 j = _ from Shape.reshapeEquiv_cons_one shapeCasts_S1x8192x4096_S8192x4096 j]
  refine congrArg x (funext fun a => Fin.ext ?_)
  match a with
  | ⟨0, _⟩ => rfl
  | ⟨1, _⟩ => exact Nat.zero_add _
  | ⟨2, _⟩ => exact Nat.zero_add _

/-- Every run of the reference ends with the result at the plane, the input as it was and every counter at zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = plane2 (m ((c.tc : Thread nD τ).loc main_arg0))
      ∧ r.2.mem ((c.tc : Thread nD τ).loc main_arg0) = m ((c.tc : Thread nD τ).loc main_arg0))
      ∧ r.2.sem = fun _ => 0) :=
  (θ_run defs _ _).mono (fun r h => ⟨fun c => ⟨(h c).1.trans (slice_plane _), (h c).2⟩, sem_eq_zero_of_no_sems (by decide) r.2⟩)
    (Cert.Reference.Value.run m ρ)

end Cert.Reference.Hand

namespace Cert.ReferenceIdeal.Hand

open Cert.ReferenceIdeal
open Idealize.ShloMosaic Idealize.ShloMosaic.TcCoe
open Idealize.SL.Sem
open Cert.Kernel.Hand (plane2)

variable {F : FTy → Type} [FloatOps F]

/-- The idealized reference is the same text, and so are its runs. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = plane2 (m ((c.tc : Thread nD τ).loc main_arg0))
      ∧ r.2.mem ((c.tc : Thread nD τ).loc main_arg0) = m ((c.tc : Thread nD τ).loc main_arg0))
      ∧ r.2.sem = fun _ => 0) :=
  Cert.Reference.Hand.run m ρ

end Cert.ReferenceIdeal.Hand

end
-- ==== Proof.lean ====
/-
  The claims, each read off a run: the kernel's (Proof/Launch.lean), its idealization's (Proof/Twin.lean) and the
  two references' (Proof/Plane.lean) all end with the result at the one plane of the input, the input as it was and
  every counter at zero.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.Gen.Reference.Run
public import proofs.«01_k».proof.Proof.Plane
public import Idealize.ShloMosaic.Adequacy
public import Idealize.ShloMosaic.Init

@[expose] public section

noncomputable section

namespace Cert.Proof

open Idealize.ShloMosaic Idealize.SL.Sem

/-- The kernel terminates without fault, keeps its input and leaves every counter at zero. -/
theorem frame_kernel : Cert.quiescent_Kernel := fun m ρ _ =>
  (θ_run Cert.Kernel.defs _ _).mono (fun _ h => ⟨fun c => (h.1 c).2, h.2⟩) (Cert.Kernel.Hand.run m ρ)
/-- So does its idealization, -/
theorem frame_kernelIdeal : Cert.quiescent_KernelIdeal := fun m ρ _ =>
  (θ_run Cert.KernelIdeal.defs _ _).mono (fun _ h => ⟨fun c => (h.1 c).2, h.2⟩) (Cert.KernelIdeal.Hand.run m ρ)
/-- the idealized reference, -/
theorem frame_referenceIdeal : Cert.quiescent_ReferenceIdeal := fun m ρ _ =>
  (θ_run Cert.ReferenceIdeal.defs _ _).mono (fun _ h => ⟨fun c => (h.1 c).2, h.2⟩) (Cert.ReferenceIdeal.Hand.run m ρ)
/-- and the reference. -/
theorem frame_reference : Cert.quiescent_Reference := fun m ρ _ =>
  (θ_run Cert.Reference.defs _ _).mono (fun _ h => ⟨fun c => (h.1 c).2, h.2⟩) (Cert.Reference.Hand.run m ρ)

/-- At the ideal instance, kernel and reference end with equal results: the plane of the common input. -/
theorem algebraic : Cert.algebraic_KernelIdeal_ReferenceIdeal := fun m ρ m' ρ' _ hagree =>
  ⟨_, (θ_run Cert.KernelIdeal.defs _ _).mono (fun _ h => h.1) (Cert.KernelIdeal.Hand.run m ρ),
    (θ_run Cert.ReferenceIdeal.defs _ _).mono
      (fun _ h c => ⟨(h.1 c).1.trans (congrArg Cert.Kernel.Hand.plane2 (hagree c)), (h.1 c).2⟩) (Cert.ReferenceIdeal.Hand.run m' ρ')⟩

/-- Bit for bit, kernel and reference end with equal results. -/
theorem bitexact : Cert.bitexact_Kernel_Reference := fun m ρ m' ρ' _ hagree =>
  ⟨_, (θ_run Cert.Kernel.defs _ _).mono (fun _ h => h.1) (Cert.Kernel.Hand.run m ρ),
    (θ_run Cert.Reference.defs _ _).mono
      (fun _ h c => ⟨(h.1 c).1.trans (congrArg Cert.Kernel.Hand.plane2 (hagree c)), (h.1 c).2⟩) (Cert.Reference.Hand.run m' ρ')⟩

/-- All the claims. -/
theorem claim : Cert.Claim :=
  ⟨Cert.Kernel.Gen.facts, Cert.KernelIdeal.Gen.facts, Cert.ReferenceIdeal.Gen.facts, Cert.Reference.Gen.facts,
    frame_kernel, frame_kernelIdeal, frame_referenceIdeal, frame_reference, trivial, algebraic, bitexact⟩

end Cert.Proof

end
